-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x8192x1 : Shape := ⟨3, ![64, 8192, 1]⟩
abbrev S524288 : Shape := ⟨1, ![524288]⟩
abbrev S_ : Shape := ⟨0, ![]⟩

class Facts : Prop where
  bcast_S_S524288 : S_.BroadcastsInDim S524288 (![] : Fin 0 → Fin S524288.rank)
  reducesTo_S524288_S_d0 : S524288.ReducesTo [0] S_
  h_S_ : 0 < S_.numel

variable [Facts]

def fn {F : FTy → Type} [FloatOps F] (main_arg0 : FVec F S64x8192x1 .f32) (main_arg1 : IVec S524288 32) : IVec S_ 1 :=
  let main_c : IVec S_ 32 := constantI S_ 32 0#32
  let main_v0 : IVec S524288 32 := broadcastInDim S524288 ![] bcast_S_S524288 main_c
  let main_v1 : IVec S524288 1 := cmpi .sge main_arg1 main_v0
  let main_c_0 : IVec S_ 32 := constantI S_ 32 524288#32
  let main_v2 : IVec S524288 32 := broadcastInDim S524288 ![] bcast_S_S524288 main_c_0
  let main_v3 : IVec S524288 1 := cmpi .slt main_arg1 main_v2
  let main_v4 : IVec S524288 1 := andi main_v1 main_v3
  let main_c_1 : IVec S_ 1 := constantI S_ 1 1#1
  let main_v5 : IVec S_ 1 := (fun x v => Host.reduce IntOp.andi x v reducesTo_S524288_S_d0 h_S_) main_v4 main_c_1
  main_v5
-- ==== Kernel.lean ====
abbrev S64x8192x1 : Shape := ⟨3, ![64, 8192, 1]⟩
abbrev S524288 : Shape := ⟨1, ![524288]⟩
abbrev S16384 : Shape := ⟨1, ![16384]⟩
abbrev S_ : Shape := ⟨0, ![]⟩

abbrev nBuf : Table → Nat
  | .hbm => 5
  | .local .scVector .vmem => 2
  | _ => 0

abbrev bufTy : (tb : Table) → Fin (nBuf tb) → BufTy
  | .hbm, ⟨0, _⟩ => ⟨S64x8192x1, .f32⟩
  | .hbm, ⟨1, _⟩ => ⟨S524288, .i32⟩
  | .hbm, ⟨2, _⟩ => ⟨S524288, .f32⟩
  | .hbm, ⟨3, _⟩ => ⟨S524288, .f32⟩
  | .hbm, ⟨4, _⟩ => ⟨S64x8192x1, .f32⟩
  | .local .scVector .vmem, ⟨0, _⟩ => ⟨S16384, .i32⟩
  | .local .scVector .vmem, ⟨1, _⟩ => ⟨S16384, .f32⟩
  | _, _ => ⟨S64x8192x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  let v2 : BitVec 32 := Scalar.muli v1 c16384_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x8192x1 : Shape := ⟨3, ![64, 8192, 1]⟩
abbrev S524288 : Shape := ⟨1, ![524288]⟩
abbrev S524288x1 : Shape := ⟨2, ![524288, 1]⟩
abbrev S_ : Shape := ⟨0, ![]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x8192x1, .f32⟩
  | .hbm, ⟨1, _⟩ => ⟨S524288, .i32⟩
  | .hbm, ⟨2, _⟩ => ⟨S524288x1, .f32⟩
  | .hbm, ⟨3, _⟩ => ⟨S_, .i32⟩
  | .hbm, ⟨4, _⟩ => ⟨S524288, .i32⟩
  | .hbm, ⟨5, _⟩ => ⟨S524288, .i1⟩
  | .hbm, ⟨6, _⟩ => ⟨S_, .i32⟩
  | .hbm, ⟨7, _⟩ => ⟨S524288, .i32⟩
  | .hbm, ⟨8, _⟩ => ⟨S524288, .i32⟩
  | .hbm, ⟨9, _⟩ => ⟨S524288, .i32⟩
  | .hbm, ⟨10, _⟩ => ⟨S524288x1, .i32⟩
  | .hbm, ⟨11, _⟩ => ⟨S1, .i32⟩
  | .hbm, ⟨12, _⟩ => ⟨S_, .i32⟩
  | .hbm, ⟨13, _⟩ => ⟨S524288x1, .i32⟩
  | .hbm, ⟨14, _⟩ => ⟨S524288x1, .i1⟩
  | .hbm, ⟨15, _⟩ => ⟨S1x1, .i32⟩
  | .hbm, ⟨16, _⟩ => ⟨S524288x1, .i32⟩
  | .hbm, ⟨17, _⟩ => ⟨S524288x1, .i1⟩
  | .hbm, ⟨18, _⟩ => ⟨S524288x1, .i1⟩
  | .hbm, ⟨19, _⟩ => ⟨S_, .i1⟩
  | .hbm, ⟨20, _⟩ => ⟨S524288, .i1⟩
  | .hbm, ⟨21, _⟩ => ⟨S524288x1, .f32⟩
  | .hbm, ⟨22, _⟩ => ⟨S524288x1, .i1⟩
  | .hbm, ⟨23, _⟩ => ⟨S_, .f32⟩
  | .hbm, ⟨24, _⟩ => ⟨S524288x1, .f32⟩
  | .hbm, ⟨25, _⟩ => ⟨S524288x1, .f32⟩
  | .hbm, ⟨26, _⟩ => ⟨S64x8192x1, .f32⟩
  | _, _ => ⟨S64x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Setup.lean ====
/-
  What the run of the gather is stated in: the launch's program, its ghost state, the arrays it names, the way the work is
  cut over the subcores, and the array the kernel is to leave.

  The list `perm` and the output are cut into 32 chunks of 16384 words, one per vector subcore; subcore `s` of SparseCore
  `c` has chunk `2 s + c`. The flattened input is read by all 32 subcores at once, so each gets one of 32 shares of it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Take

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The four handshake semaphores are the launch's own, and no TensorCore buffer belongs to a SparseCore. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The input as given, the list, the flattened input, the kernel's output, and the result. -/
abbrev aLoc (d : Dev nD) : Loc nD τ sig := (SparseCore.T d).loc main_arg0
abbrev pLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- Word `n` of a flat array, counted round if `n` is past the end. -/
def word (n : ℕ) : S524288.Idx := fun a => match a with | 0 => ⟨n % 524288, Nat.mod_lt _ (by decide)⟩

/-- The array picked out of `x` by the list `p`: entry `j` is word `p j` of `x`. -/
def picked {α : Type} (x : S524288.Idx → α) (p : S524288.Idx → BitVec 32) : S524288.Idx → α := fun j => x (word (p j).toNat)

/-- The input flattened, what the kernel is to leave in its output, and that in the input's shape. -/
def flat (d : Dev nD) : Buf (Elt F) (xLoc d) := shapeCast S524288 (m (aLoc d)) shapeCasts_S64x8192x1_S524288
def want (d : Dev nD) : Buf (Elt F) (oLoc d) := picked (flat m d) (m (pLoc d))
def result (d : Dev nD) : Buf (Elt F) (rLoc d) := shapeCast S64x8192x1 (want m d) shapeCasts_S524288_S64x8192x1

/-- What is asked of the launch memory: every entry of the list names a word of the flattened input. -/
def InRange : Prop := ∀ (d : Dev nD) (j : S524288.Idx), (m (pLoc d) j).toNat < 524288

/-! ## The cut -/

theorem chunks : 32 ∣ S524288.size 0 := ⟨16384, rfl⟩

/-- Chunk `w` of a flat array, and the words in it. -/
abbrev chunk (w : Fin 32) : Rect S524288 := Rect.part (s := S524288) (a₀ := 0) chunks w
abbrev chunkSet (w : Fin 32) : Finset S524288.Idx := (chunk w).set

/-- The chunk of subcore `s` of SparseCore `c`. -/
def wid : Fin 2 × Fin 16 ≃ Fin 32 := (Equiv.prodComm _ _).trans finProdFinEquiv

theorem wid_val (c : Fin 2) (s : Fin 16) : (wid (c, s)).val = c.val + 2 * s.val := rfl

/-- The share of the flattened input that goes with chunk `w`. -/
abbrev part (w : Fin 32) : PosShare TreeShare := ShareLeaves.leaf 5 fullShare w

/-- The subcore with chunk `w` is handed that chunk of the list, its share of the flattened input, and the output's chunk;
    it brings them back with the chunk at the picked values. -/
abbrev handed (d : Dev nD) (w : Fin 32) : sProp 𝕄 :=
  iprop((pLoc d ↦[chunkSet w]{fullShare} m (pLoc d)) ∗ (xLoc d ↦{part w} flat m d) ∗ (oLoc d ↦[chunkSet w]{fullShare} m (oLoc d)))
abbrev brought (d : Dev nD) (w : Fin 32) : sProp 𝕄 :=
  iprop((pLoc d ↦[chunkSet w]{fullShare} m (pLoc d)) ∗ (xLoc d ↦{part w} flat m d) ∗ (oLoc d ↦[chunkSet w]{fullShare} want m d))

theorem nCore_zero : (K (F := F)).nCore 0 = 2 := rfl
theorem nSub_zero : (K (F := F)).nSub 0 = 16 := rfl

abbrev widOf (c : Fin ((K (F := F)).nCore 0)) (i : Fin ((K (F := F)).nSub 0)) : Fin 32 := wid (Fin.cast nCore_zero c, Fin.cast nSub_zero i)

/-- What the call's handshakes carry: a SparseCore is handed what its sixteen subcores are. -/
def P : (K (F := F)).Pay (nD := nD) (Val := Elt F) (Name := ℕ) (U := UU) where
  st := fun q d c => match q with | 0 => bigSep Finset.univ fun i => handed m d (widOf c i)
  dn := fun q d c => match q with | 0 => bigSep Finset.univ fun i => brought m d (widOf c i)
  go := fun q d c i => match q with | 0 => handed m d (widOf c i)
  td := fun q d c i => match q with | 0 => brought m d (widOf c i)
  x := fun _ _ => iprop(emp)

instance P_storable : (P (F := F) m).IsStorable where
  st q d c := match q with
    | 0 => (inferInstance : BI.Storable (upEmb : UEmb _ 𝕄) (bigSep Finset.univ fun i => handed m d (widOf (F := F) c i)))
  dn q d c := match q with
    | 0 => (inferInstance : BI.Storable (upEmb : UEmb _ 𝕄) (bigSep Finset.univ fun i => brought m d (widOf (F := F) c i)))
  go q d c i := match q with
    | 0 => (inferInstance : BI.Storable (upEmb : UEmb _ 𝕄) (handed m d (widOf c i)))
  td q d c i := match q with
    | 0 => (inferInstance : BI.Storable (upEmb : UEmb _ 𝕄) (brought m d (widOf c i)))

/-! ## The whole arrays and the subcores' parts of them -/

theorem chunks_disjoint : ∀ w ∈ (Finset.univ : Finset (Fin 32)), ∀ w' ∈ (Finset.univ : Finset (Fin 32)), w ≠ w' → Disjoint (chunkSet w) (chunkSet w') :=
  fun _ _ _ _ h => Rect.part_disjoint chunks h

theorem list_chunks (d : Dev nD) (f : Buf (Elt F) (pLoc d)) :
    (pLoc d ↦{fullShare} f : sProp 𝕄) = bigSep Finset.univ fun w : Fin 32 => pLoc d ↦[chunkSet w]{fullShare} f := by
  rw [← pointsTo_biUnion Finset.univ (ℓ := pLoc d) chunkSet chunks_disjoint, Rect.biUnion_part chunks]

theorem out_chunks (d : Dev nD) (f : Buf (Elt F) (oLoc d)) :
    (oLoc d ↦{fullShare} f : sProp 𝕄) = bigSep Finset.univ fun w : Fin 32 => oLoc d ↦[chunkSet w]{fullShare} f := by
  rw [← pointsTo_biUnion Finset.univ (ℓ := oLoc d) chunkSet chunks_disjoint, Rect.biUnion_part chunks]

theorem input_parts (d : Dev nD) (f : Buf (Elt F) (xLoc d)) :
    (xLoc d ↦{fullShare} f : sProp 𝕄) = bigSep Finset.univ fun w : Fin 32 => xLoc d ↦{part w} f :=
  ShareLeaves.pointsTo_leaves Finset.univ f 5 fullShare

/-- A family over the chunks is one over the SparseCores, each a family over its subcores. -/
theorem by_core (Φ : Fin 32 → sProp 𝕄) :
    bigSep Finset.univ Φ
      = bigSep Finset.univ fun c : Fin ((K (F := F)).nCore 0) => bigSep Finset.univ fun i : Fin ((K (F := F)).nSub 0) => Φ (widOf c i) := by
  rw [bigSep_univ_equiv wid, bigSep_univ_prod]; rfl

/-- The three arrays whole are what the SparseCores are handed; -/
theorem handed_all (d : Dev nD) :
    iprop((pLoc d ↦{fullShare} m (pLoc d)) ∗ (xLoc d ↦{fullShare} flat m d) ∗ (oLoc d ↦{fullShare} m (oLoc d)))
      = (bigSep Finset.univ fun c : Fin ((K (F := F)).nCore 0) => (P m).st 0 d c : sProp 𝕄) := by
  rw [list_chunks, input_parts, out_chunks, ← bigSep_sep', ← bigSep_sep', by_core]; rfl

/-- what they bring back is the three arrays whole, the output at the picked values. -/
theorem brought_all (d : Dev nD) :
    (bigSep Finset.univ fun c : Fin ((K (F := F)).nCore 0) => (P m).dn 0 d c : sProp 𝕄)
      = iprop((pLoc d ↦{fullShare} m (pLoc d)) ∗ (xLoc d ↦{fullShare} flat m d) ∗ (oLoc d ↦{fullShare} want m d)) := by
  rw [list_chunks, input_parts, out_chunks, ← bigSep_sep', ← bigSep_sep', by_core]; rfl

/-- A SparseCore's part is its subcores' parts, there and back. -/
theorem vecSplit : (K (F := F)).VecSplit' (P m) 0 := by
  intro d c
  show (bigSep Finset.univ fun i : Fin ((K (F := F)).nSub 0) => handed m d (widOf c i)) ⊢ |={Set.univ}=> iprop(
    (bigSep Finset.univ fun i : Fin ((K (F := F)).nSub 0) => handed m d (widOf c i))
      ∗ ((bigSep Finset.univ fun i : Fin ((K (F := F)).nSub 0) => brought m d (widOf c i))
        -∗ bigSep Finset.univ fun i : Fin ((K (F := F)).nSub 0) => brought m d (widOf c i)))
  iintro H; imodintro
  isplitl [H]; · iexact H
  iintro H; iexact H

end Cert.Proof.Take

end
-- ==== Proof.Tile.lean ====
/-
  The kernel's body on one vector subcore, at any SparseCore and any subcore: fetch the chunk of the list, gather the words
  it names, write them to the chunk of the output. At the end that chunk holds the picked values.
-/
module

public import proofs.«01_k».proof.Proof.Setup

@[expose] public section

noncomputable section

namespace Cert.Proof.Take

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The subcore and its chunk, as the body addresses it -/

/-- The flattened input, the list, the output, and the two scratch buffers, whole. -/
abbrev xV : Memref sig .scVector .hbm S524288 .f32 := Memref.whole main_v0_scv
abbrev pV : Memref sig .scVector .hbm S524288 .i32 := Memref.whole main_arg1_scv
abbrev oV : Memref sig .scVector .hbm S524288 .f32 := Memref.whole main_v1_scv
abbrev sV : Memref sig .scVector .vmem S16384 .i32 := Memref.whole cc0_scratch0
abbrev rV : Memref sig .scVector .vmem S16384 .f32 := Memref.whole cc0_scratch1
abbrev cV : Fin τ.nSC := (L 0).castLE hcore0
abbrev jV : Fin τ.nSub := (L 1).castLE hsub0
abbrev me : Thread nD τ := V d (cV L) (jV L)
theorem bound_zero : grid0.bound 0 = 2 := rfl
theorem bound_one : grid0.bound 1 = 16 := rfl
abbrev wL : Fin 32 := wid (Fin.cast bound_zero (L 0), Fin.cast bound_one (L 1))

abbrev mine : Rect S524288 := Rect.unit (s := S524288) (k0_off1 L) S16384.size (k0_off1_inb L)
abbrev pMine : Memref sig .scVector .hbm S16384 .i32 := pV.slice (mine L) (fun _ => rfl)
abbrev oMine : Memref sig .scVector .hbm S16384 .f32 := oV.slice (mine L) (fun _ => rfl)
abbrev xAll : Memref sig .scVector .hbm S524288 .f32 := xV.slice (Rect.unit (s := S524288) ![0] S524288.size inb_S524288_S524288_0) (fun _ => rfl)

theorem mine_eq : mine L = chunk (wL L) := by
  unfold mine chunk Rect.part Rect.block
  congr 1 <;> funext a
  · rw [k0_off1_eq]
    match a with
    | 0 =>
      show 32768 * (L 1).val + 16384 * (L 0).val = ((L 0).val + 2 * (L 1).val) * (524288 / 32)
      omega
  · match a with
    | 0 => rfl

theorem set_pMine : (pMine L).view.set = chunkSet (wL L) := by
  show ((View.whole (main_arg1_scv : Ref sig .scVector)).slice (mine L)).set = _
  rw [View.set_slice, mine_eq]; exact Finset.map_refl

theorem set_oMine : (oMine L).view.set = chunkSet (wL L) := by
  show ((View.whole (main_v1_scv : Ref sig .scVector)).slice (mine L)).set = _
  rw [View.set_slice, mine_eq]; exact Finset.map_refl

theorem pts_pMine (f : Buf (Elt F) (pLoc d)) :
    ((pMine L).view.loc (me d L) ↦[(pMine L).view.set]{fullShare} f : sProp 𝕄) = pLoc d ↦[chunkSet (wL L)]{fullShare} f := by rw [set_pMine]
theorem pts_oMine (f : Buf (Elt F) (oLoc d)) :
    ((oMine L).view.loc (me d L) ↦[(oMine L).view.set]{fullShare} f : sProp 𝕄) = oLoc d ↦[chunkSet (wL L)]{fullShare} f := by rw [set_oMine]
theorem pts_xV (q : PosShare TreeShare) (f : Buf (Elt F) (xLoc d)) :
    (xV.view.loc (me d L) ↦{q} f : sProp 𝕄) = xLoc d ↦{q} f := rfl
theorem pts_sV (f : Buf (Elt F) ((me d L).loc cc0_scratch0)) :
    (sV.view.loc (me d L) ↦{fullShare} f : sProp 𝕄) = (me d L).loc cc0_scratch0 ↦{fullShare} f := rfl
theorem pts_rV (f : Buf (Elt F) ((me d L).loc cc0_scratch1)) :
    (rV.view.loc (me d L) ↦{fullShare} f : sProp 𝕄) = (me d L).loc cc0_scratch1 ↦{fullShare} f := rfl

/-! ## The subcore's own semaphores and scratch -/

abbrev gatherCell : GSem nD τ sig := (me d L, .dma cc0_scratch2.sem)
abbrev fetchCell : GSem nD τ sig := (me d L, .dma cc0_scoped0.sem)
abbrev storeCell : GSem nD τ sig := (me d L, .dma cc0_scoped1.sem)

theorem mem_cells (s : DmaSem sig) (h : (SemLoc.dma s : SemLoc sig).isScoped .scVector = true) :
    (me d L, SemLoc.dma s) ∈ ownCells (me d L) := (mem_ownCells (g := (me d L, SemLoc.dma s))).mpr ⟨rfl, h⟩

/-- The three semaphores of the body, at zero, and the rest. -/
theorem sems_split :
    (ownSems0 (me d L) : sProp 𝕄)
      = iprop(semVal (gatherCell d L) 0 ∗ semVal (fetchCell d L) 0 ∗ semVal (storeCell d L) 0
          ∗ bigSep ((((ownCells (me d L)).erase (gatherCell d L)).erase (fetchCell d L)).erase (storeCell d L)) fun g => semVal g 0) := by
  have ne {a b : DmaSem sig} (h : (SemLoc.dma a : SemLoc sig) ≠ .dma b) : ((me d L, .dma a) : GSem nD τ sig) ≠ (me d L, .dma b) :=
    fun e => h (Prod.ext_iff.mp e).2
  unfold SparseCore.Cfg.ownSems0
  rw [SparseCore.bigSep_erase' (mem_cells d L cc0_scratch2.sem (by decide)),
    SparseCore.bigSep_erase' (Finset.mem_erase.mpr ⟨ne (by decide), mem_cells d L cc0_scoped0.sem (by decide)⟩),
    SparseCore.bigSep_erase' (Finset.mem_erase.mpr ⟨ne (by decide), Finset.mem_erase.mpr ⟨ne (by decide), mem_cells d L cc0_scoped1.sem (by decide)⟩⟩)]

/-- The two scratch buffers, at some contents, and the rest. -/
theorem bufs_split :
    (ownBufs (me d L) : sProp 𝕄)
      = iprop((∃ f, (me d L).loc cc0_scratch0 ↦{fullShare} f) ∗ (∃ f, (me d L).loc cc0_scratch1 ↦{fullShare} f)
          ∗ bigSep (((ownRefs (τ := τ) (me d L).2).erase ((me d L).2.devRef cc0_scratch0)).erase ((me d L).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (me d L).2) (b := (me d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (me d L).2) (b := (me d L).2.devRef cc0_scratch1) rfl⟩)]

/-! ## The list the gather reads -/

/-- Once the chunk of the list is fetched, every entry in the scratch names a word of the flattened input. -/
theorem fetched_inb (hpre : InRange m) (fs : Buf (Elt F) ((me d L).loc cc0_scratch0)) :
    ∀ x, (sV.view.read (Elt F) (View.write (Elt F) sV.view fs ((pMine L).view.read (Elt F) (m (pLoc d))) Finset.univ) x).toNat
      < S524288.size gathers_S524288_S16384.axis := by
  intro x
  rw [View.write_whole_univ]
  simp only [Memref.view_whole, View.read_whole]
  rw [show ∀ j, (pMine L).view.read (Elt F) (m (pLoc d)) j = m (pLoc d) ((pMine L).view.emb j) from fun j => (View.read_apply _ _).trans (cast_eq _ _)]
  exact hpre d _

/-- Entry `x` of the fetched list is the list's own at the output word `x` is to go to. -/
theorem fetched_apply (fs : Buf (Elt F) ((me d L).loc cc0_scratch0)) (x : S16384.Idx) :
    sV.view.read (Elt F) (View.write (Elt F) sV.view fs ((pMine L).view.read (Elt F) (m (pLoc d))) Finset.univ) x
      = m (pLoc d) ((oMine L).view.emb x) := by
  rw [View.write_whole_univ]; rfl

/-- The row a flat list names for the destination's word `x` is the list's entry `x`. -/
theorem rows_flat (l : S16384.Idx → Elt F .i32) (hn : S16384.numel = S16384.size gathers_S524288_S16384.axis')
    (h : ∀ x, (l x).toNat < S524288.size gathers_S524288_S16384.axis) (x : S16384.Idx) :
    (SparseCore.rows l hn h (x gathers_S524288_S16384.axis')).val = (l x).toNat := by
  have hx : S16384.rowMajor.symm ((x gathers_S524288_S16384.axis').cast hn.symm) = x := by
    rw [Equiv.symm_apply_eq]
    exact Fin.ext (Shape.rowMajor_val_one x).symm
  exact congrArg (fun z => (l z).toNat) hx

/-- What the gather lands is the picked values of this chunk. -/
theorem gathered_apply (hpre : InRange m) (fs : Buf (Elt F) ((me d L).loc cc0_scratch0)) (hn : S16384.numel = S16384.size gathers_S524288_S16384.axis')
    (hin : ∀ x, (sV.view.read (Elt F) (View.write (Elt F) sV.view fs ((pMine L).view.read (Elt F) (m (pLoc d))) Finset.univ) x).toNat
      < S524288.size gathers_S524288_S16384.axis) (x : S16384.Idx) :
    SparseCore.gatherPayload gathers_S524288_S16384 (xAll.view.read (Elt F) (flat m d))
        (SparseCore.rows (sV.view.read (Elt F) (View.write (Elt F) sV.view fs ((pMine L).view.read (Elt F) (m (pLoc d))) Finset.univ)) hn hin) x
      = want m d ((oMine L).view.emb x) := by
  show flat m d (xAll.view.emb (gathers_S524288_S16384.idx _ x)) = flat m d (word (m (pLoc d) ((oMine L).view.emb x)).toNat)
  refine congrArg (flat m d) (funext fun a => ?_)
  match a with
  | 0 =>
    refine Fin.ext ?_
    show 0 + 1 * (gathers_S524288_S16384.idx _ x gathers_S524288_S16384.axis).val = (m (pLoc d) ((oMine L).view.emb x)).toNat % 524288
    rw [Shape.Gathers.idx_axis, Nat.mod_eq_of_lt (hpre d _), Nat.zero_add, Nat.one_mul]
    exact (rows_flat _ hn hin x).trans (congrArg BitVec.toNat (fetched_apply m d L fs x))

/-- Word `x` of the output's chunk, once the chunk is written with `y`, is `y x`. -/
theorem written_apply (f : Buf (Elt F) (oLoc d)) (y : S16384.Idx → Elt F .f32) (x : S16384.Idx) :
    (oMine L).view.writes (Elt F) f [⟨Rect.whole S16384, y⟩] ((oMine L).view.emb x) = y x := by
  have h := congrFun ((oMine L).view.read_writes_whole f y) x
  rw [View.read_apply, cast_eq] at h
  exact h

/-- The output's chunk written with the picked values, word by word, is the chunk at the array the kernel is to leave. -/
theorem out_written (f : Buf (Elt F) (oLoc d)) (y : S16384.Idx → Elt F .f32) (hy : ∀ x, y x = want m d ((oMine L).view.emb x)) :
    ((oMine L).view.loc (me d L) ↦[(oMine L).view.set]{fullShare} (oMine L).view.writes (Elt F) f [⟨Rect.whole S16384, y⟩] : sProp 𝕄)
      = oLoc d ↦[chunkSet (wL L)]{fullShare} want m d := by
  rw [← pts_oMine d L]
  refine pointsTo_congr fun i hi => ?_
  obtain ⟨x, -, rfl⟩ := Finset.mem_map.mp hi
  exact (written_apply d L f y x).trans (hy x)

variable [FloatOps F]

set_option maxHeartbeats 4000000 in
/-- The body, from what the subcore is handed, ends with what it brings back: its chunk of the output at the picked values,
    its three semaphores at zero. -/
theorem tile_body (hF : (K (F := F)).Facts) (hpre : InRange m) (O : CellTallies nD τ sig (HIx 1)) (W : Waits sig (HIx 1)) (hO : ∀ g, O g none = 0) :
    iprop(levAts (K (F := F)).L (K (F := F)).lev ∗ emp ∗ handed m d (wL L)
        ∗ scopedBufs (me d L) ∗ scopedSems0 (me d L) ∗ owes (me d L) O W)
      ⊢ wp frame (wpE (defs₀ (F := F)) 𝒱₀ (me d L) none) Set.univ
          (cc0_k L xV (Memref.isWhole_whole _) pV (Memref.isWhole_whole _) oV (Memref.isWhole_whole _)
            sV (Memref.isWhole_whole _) rV (Memref.isWhole_whole _) cc0_scratch2 cc0_scoped0 cc0_scoped1)
          fun _ => iprop(brought m d (wL L) ∗ scopedBufs (me d L) ∗ scopedSems0 (me d L)
            ∗ ∃ W', ⌜∀ p ∈ W', p ∈ W ∨ p.2 = none⌝ ∗ owes (me d L) O W') := by
  simp only [cc0_k_eq_skeleton]; unfold cc0_k_skel
  rw [(K (F := F)).scopedBufs_V hF d (cV L) (jV L), SparseCore.Cfg.scopedSems0_V (Val := Elt F) d (cV L) (jV L), sems_split, bufs_split]
  iintro ⟨#Hlv, -, ⟨Hp, Hx, Ho⟩, ⟨⟨%fs, Hs⟩, ⟨%fr, Hr⟩, Hbufs⟩, ⟨Hg, Hf, Hw, Hsems⟩, HO⟩
  ihave Hmw := (show levAts (K (F := F)).L (K (F := F)).lev ⊢ Transfers.MayWaits (me d L) (default : HIx 1) O from
    (K (F := F)).mayWaits_none (thr := me d L) hO) $$ Hlv
  ihave Hp' := (Entails.of_eq (pts_pMine (F := F) d L _).symm) $$ Hp
  ihave Ho' := (Entails.of_eq (pts_oMine (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  have hin := fetched_inb m d L hpre fs
  sl_exec
  have hy : ∀ x, tile_body.sl.dma0_1 m d L fs fr hin x = want m d ((oMine L).view.emb x) := fun x =>
    (congrFun (rV.view.read_writes_whole fr (tile_body.sl.gather1 m d L fs hin)) x).trans (gathered_apply m d L hpre fs rfl hin x)
  sl_step
  isplitl [Hp' Hx' Ho']
  · isplitl [Hp']; · iapply (Entails.of_eq (pts_pMine (F := F) d L _)); iexact Hp'
    isplitl [Hx']; · iexact Hx'
    iapply (Entails.of_eq (out_written m d L _ _ hy)); iexact Ho'
  isplitl [Hs' Hr' Hbufs]
  · isplitl [Hs']; · iexists _; iexact Hs'
    isplitl [Hr']; · iexists _; iexact Hr'
    iexact Hbufs
  isplitl [Hg Hf Hw Hsems]
  · isplitl [Hg]; · iexact Hg
    isplitl [Hf]; · iexact Hf
    isplitl [Hw]; · iexact Hw
    iexact Hsems
  iexists _; isplitr
  swap; · iexact HO
  ipureintro; intro p hp
  simp only [Finset.mem_insert] at hp
  rcases hp with rfl | rfl | rfl | hp
  · exact .inr rfl
  · exact .inr rfl
  · exact .inr rfl
  · exact .inl hp

end Cert.Proof.Take

end
-- ==== Proof.Launch.lean ====
/-
  The program's run: the call's tasks by the body's run (Tile.lean), @main's two reshapes and its call, and the whole
  execution. Every run ends with the result at the picked values in the input's shape, the arguments as they were, and
  every semaphore at zero.
-/
module

public import proofs.«01_k».proof.Proof.Tile

@[expose] public section

noncomputable section

namespace Cert.Proof.Take

open Cert.KernelIdeal Cert.KernelIdeal.Gen

open Idealize.ShloMosaic
open Idealize.ShloMosaic.SparseCore (S V)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The call's tasks -/

/-- The coordinates of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

theorem body_at (c : Fin τ.nSC) (s : Fin τ.nSub) :
    defs₀ (F := F) (.scVector c s) 0 ()
      = SparseCore.onTile hcore0 hsub0 (fun c s => cc0_k (coords c s)
          (Memref.whole main_v0_scv) (Memref.isWhole_whole _) (Memref.whole main_arg1_scv) (Memref.isWhole_whole _)
          (Memref.whole main_v1_scv) (Memref.isWhole_whole _) (Memref.whole cc0_scratch0) (Memref.isWhole_whole _)
          (Memref.whole cc0_scratch1) (Memref.isWhole_whole _) cc0_scratch2 cc0_scoped0 cc0_scoped1) ⟨⟩ c s := rfl

/-- The body waits on no handshake, which is more than the launch asks. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each subcore's task in the call is the body at its coordinates. -/
theorem tileObl (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_at]; simp only [SparseCore.onTile, hci, and_self, ↓reduceDIte]
  exact (tile_body m d (coords ⟨_, hci.1⟩ ⟨_, hci.2⟩) hF hpre O W hO).trans (wp_mono frame _ _ fun _ => waits_weaken)

/-! ## The launch's ghost state -/

def u₀ : UU := (initOf (K (F := F)).hsCells (K (F := F)).hsToks, 1)

/-- The handshakes' state comes of it; the body needs none of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_emp_const _).trans (bigSep_emp_const _)
  have he : (bigSep Finset.univ fun _ : Dev nD => iprop(emp)) = (iprop(emp) : sProp 𝕄) := bigSep_emp_const _
  unfold u₀
  rw [hx, he]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## @main on the TensorCore -/

abbrev a' : DevRef τ sig := Proc.devRef .tc main_arg0
abbrev p' : DevRef τ sig := Proc.devRef .tc main_arg1
abbrev x' : DevRef τ sig := Proc.devRef .tc main_v0
abbrev o' : DevRef τ sig := Proc.devRef .tc main_v1
abbrev r' : DevRef τ sig := Proc.devRef .tc main_v2

/-- @main's two reshapes. -/
abbrev flatten : HloOp τ sig (Elt F) := StableHlo.reshape main_arg0 main_v0 (rfl : (.f32 : EltTy) = .f32) shapeCasts_S64x8192x1_S524288
abbrev reshaped : HloOp τ sig (Elt F) := StableHlo.reshape main_v1 main_v2 (rfl : (.f32 : EltTy) = .f32) shapeCasts_S524288_S64x8192x1

/-- What the buffers hold at launch, and what they hold when the second reshape begins. -/
def before (d : Dev nD) : Valuation τ sig (Elt F) := fun b => m (d, b)
def called (d : Dev nD) : Valuation τ sig (Elt F) := Function.update ((flatten (F := F)).result (before m d)) o' (want m d)

abbrev bufs : Finset (DevRef τ sig) := {a', p', x', o', r'}

/-- The five arrays of @main held together are each of them held. -/
theorem held_bufs (d : Dev nD) (W : Valuation τ sig (Elt F)) :
    (held (SparseCore.T d) bufs W : sProp 𝕄)
      = iprop((aLoc d ↦{fullShare} W a') ∗ (pLoc d ↦{fullShare} W p') ∗ (xLoc d ↦{fullShare} W x') ∗ (oLoc d ↦{fullShare} W o') ∗ rLoc d ↦{fullShare} W r') := by
  unfold held bufs
  rw [SparseCore.bigSep_insert' (by decide), SparseCore.bigSep_insert' (by decide), SparseCore.bigSep_insert' (by decide),
    SparseCore.bigSep_insert' (by decide), bigSep_singleton]

theorem held_launch (d : Dev nD) : (unscopedBufs d (fun b => m ((SparseCore.T d).loc b)) : sProp 𝕄) = held (SparseCore.T d) bufs (before m d) := by
  rw [held_bufs]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

theorem flatten_x (d : Dev nD) : (flatten (F := F)).result (before m d) x' = flat m d := StableHlo.reshape_result ..
theorem flatten_else (d : Dev nD) (b : DevRef τ sig) (h : b ≠ x') : (flatten (F := F)).result (before m d) b = m (d, b) :=
  HloOp.result_of_not_mem _ _ fun hb => h (Finset.mem_singleton.mp hb)

theorem called_o (d : Dev nD) : called m d o' = want m d := Function.update_self ..
theorem called_else (d : Dev nD) (b : DevRef τ sig) (h : b ≠ o') : called m d b = (flatten (F := F)).result (before m d) b := Function.update_of_ne h ..

theorem reshaped_r (d : Dev nD) : (reshaped (F := F)).result (called m d) r' = result m d := by
  refine (StableHlo.reshape_result ..).trans ?_
  rw [called_o]; rfl
theorem reshaped_else (d : Dev nD) (b : DevRef τ sig) (h : b ≠ r') : (reshaped (F := F)).result (called m d) b = called m d b :=
  HloOp.result_of_not_mem _ _ fun hb => h (Finset.mem_singleton.mp hb)

/-- After the first reshape: the flattened input, everything else as it was. -/
theorem held_flatten (d : Dev nD) :
    (held (SparseCore.T d) bufs ((flatten (F := F)).result (before m d)) : sProp 𝕄)
      = iprop((aLoc d ↦{fullShare} m (aLoc d)) ∗ (pLoc d ↦{fullShare} m (pLoc d)) ∗ (xLoc d ↦{fullShare} flat m d) ∗ (oLoc d ↦{fullShare} m (oLoc d)) ∗ rLoc d ↦{fullShare} m (rLoc d)) := by
  rw [held_bufs, flatten_x, flatten_else m d a' (by decide), flatten_else m d p' (by decide), flatten_else m d o' (by decide), flatten_else m d r' (by decide)]
/-- After the call: the output at the picked values. -/
theorem held_called (d : Dev nD) :
    (held (SparseCore.T d) bufs (called m d) : sProp 𝕄)
      = iprop((aLoc d ↦{fullShare} m (aLoc d)) ∗ (pLoc d ↦{fullShare} m (pLoc d)) ∗ (xLoc d ↦{fullShare} flat m d) ∗ (oLoc d ↦{fullShare} want m d) ∗ rLoc d ↦{fullShare} m (rLoc d)) := by
  rw [held_bufs, called_o, called_else m d a' (by decide), called_else m d p' (by decide), called_else m d x' (by decide), called_else m d r' (by decide),
    flatten_x, flatten_else m d a' (by decide), flatten_else m d p' (by decide), flatten_else m d r' (by decide)]
/-- After the second reshape: the result. -/
theorem held_reshaped (d : Dev nD) :
    (held (SparseCore.T d) bufs ((reshaped (F := F)).result (called m d)) : sProp 𝕄)
      = iprop((aLoc d ↦{fullShare} m (aLoc d)) ∗ (pLoc d ↦{fullShare} m (pLoc d)) ∗ (xLoc d ↦{fullShare} flat m d) ∗ (oLoc d ↦{fullShare} want m d) ∗ rLoc d ↦{fullShare} result m d) := by
  rw [held_bufs, reshaped_r, reshaped_else m d a' (by decide), reshaped_else m d p' (by decide), reshaped_else m d x' (by decide), reshaped_else m d o' (by decide),
    called_o, called_else m d a' (by decide), called_else m d p' (by decide), called_else m d x' (by decide),
    flatten_x, flatten_else m d a' (by decide), flatten_else m d p' (by decide)]

/-- What @main keeps to the end: the arguments and the result. -/
abbrev FIN (d : Dev nD) : sProp 𝕄 :=
  iprop((aLoc d ↦{fullShare} m (aLoc d)) ∗ (pLoc d ↦{fullShare} m (pLoc d)) ∗ rLoc d ↦{fullShare} result m d)

/-- @main: the first reshape, the call on the SparseCores, the second reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_launch]
  simp only [main, wp_bind, wp_pure]
  iintro ⟨#Hctx, Hst, ⟨Hb, Hheld, Hts, -⟩, -⟩
  iapply (wp_hlo_within 𝒱 (SparseCore.T d) none Set.univ (op := flatten) (S := bufs)
    (show ({a', x'} : Finset (DevRef τ sig)) ⊆ bufs by decide) (V := before m d)) $$ [Hb Hheld]
  · isplitl [Hb] <;> iassumption
  iintro ⟨Hb, Hheld⟩
  rw [wp_ret]; imodintro
  ihave Hh := (Entails.of_eq (held_flatten m d)) $$ Hheld
  icases Hh with ⟨Ha, Hp, Hx, Ho, Hr⟩
  -- the call
  iapply ((K (F := F)).wp_run (D (F := F)) 𝒱 (EH := EH) (P := P m) κ d 0) $$ [Hst Ha Hp Hx Ho Hr Hb Hts]
  isplitr; · iexact Hctx
  isplitl [Hst]; · iexact Hst
  isplitl [Hp Hx Ho]
  · rw [← handed_all]
    isplitl [Hp]; · iexact Hp
    isplitl [Hx]; · iexact Hx
    iexact Ho
  iintro ⟨Hst, Hdn⟩
  ihave Hdn' := (Entails.of_eq (brought_all m d)) $$ Hdn
  icases Hdn' with ⟨Hp, Hx, Ho⟩
  iapply (wp_hlo_within 𝒱 (SparseCore.T d) none Set.univ (op := reshaped) (S := bufs)
    (show ({o', r'} : Finset (DevRef τ sig)) ⊆ bufs by decide) (V := called m d)) $$ [Hb Ha Hp Hx Ho Hr]
  · isplitl [Hb]; · iexact Hb
    rw [held_called]
    isplitl [Ha]; · iexact Ha
    isplitl [Hp]; · iexact Hp
    isplitl [Hx]; · iexact Hx
    isplitl [Ho]; · iexact Ho
    iexact Hr
  iintro ⟨Hb, Hheld⟩
  ihave Hh := (Entails.of_eq (held_reshaped m d)) $$ Hheld
  icases Hh with ⟨Ha, Hp, -, -, Hr⟩
  rw [wp_ret]; imodintro; imodintro
  isplitl [Hst]; · iexact Hst
  isplitr [Hb Hts]
  · isplitl [Ha]; · iexact Ha
    isplitl [Hp]; · iexact Hp
    iexact Hr
  isplitl [Hb] <;> iassumption

/-- What a final memory shows of it. -/
def Ends (d : Dev nD) (s : MemSt nD τ sig (Elt F)) : Prop :=
  s.mem (rLoc d) = result m d ∧ s.mem (aLoc d) = m (aLoc d) ∧ s.mem (pLoc d) = m (pLoc d)

/-- Held to the end, the arguments and the result are what the final memory has. -/
theorem hfin (d : Dev nD) (s' : Phys nD τ sig (Elt F)) : iprop(FIN m d ∗ SI s') ⊢ (⌜Ends m d s'.mem⌝ : sProp 𝕄) := by
  iintro ⟨⟨Ha, Hp, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (SI_pointsTo_agree (st := s') (ℓ := rLoc d) (I := Finset.univ) (q := fullShare) (f := result m d)) $$ [HSI Hr]
  · isplitl [HSI] <;> iassumption
  icases H with %hr
  ipureintro
  exact ⟨funext fun i => hr i (Finset.mem_univ i), funext fun i => ha i (Finset.mem_univ i), funext fun i => hp i (Finset.mem_univ i)⟩

/-! ## The run -/

/-- From a memory whose list is in range, every execution ends, on every device, with the result at the picked values and
    the arguments as they were, and with every semaphore at zero. -/
theorem run_main [∀ e, Nonempty (Elt F e)] (hpre : InRange m) :
    θ_run (Cert.KernelIdeal.defs (F := F)) (Cert.KernelIdeal.threads (F := F)) ⟨m, fun _ => 0, ρ⟩
      fun r => (∀ d : Dev nD, Ends m d r.2) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem) (hfin m) _ (fun _ h hz => ⟨h, hz⟩)

end Cert.Proof.Take

end
-- ==== Proof.Value.lean ====
/-
  The precondition decoded, and the reference's array: it is the kernel's, entry by entry.

  The reference lays the input out as one column of 524288 rows and takes from it the rows `perm` names. It first moves a
  negative word up by 524288 and afterwards puts NaN where a word is out of range. With every word in range neither step
  does anything, so row `j` of its column is the flattened input at word `perm j`. That column and the kernel's flat
  output hold the same word at the same place in memory order, so they are the same array in the result's shape.
-/
module

public import proofs.«01_k».proof.Proof.Launch
public import proofs.«01_k».proof.Proof.Gen.Pre_in_range
public import proofs.«01_k».proof.Proof.Gen.ReferenceIdeal.Run
public import Idealize.ShloMosaic.Lib.ReduceAll
public import Idealize.ShloMosaic.Lib.Routing.Ops
public import Idealize.ShloMosaic.Lib.WordArith

@[expose] public section

noncomputable section

namespace Cert.Proof.Take

open Idealize.ShloMosaic Idealize.SL.Sem
open Idealize.ShloMosaic.ValueIdx
open Idealize.ShloMosaic.StableHlo

variable {F : FTy → Type} [FloatOps F]

/-! ## The precondition -/

/-- A word at least 0 and below 524288, compared as signed words, is below 524288 as a number. -/
theorem word_in_range (v : BitVec 32) (h : IntOp.andi (IntOp.cmpi .sge v 0#32) (IntOp.cmpi .slt v 524288#32) = 1#1) : v.toNat < 524288 := by
  simp only [IntOp.cmpi, WordArith.andi_ofBool, WordArith.ofBool_eq_one_iff, Bool.and_eq_true, BitVec.sle_eq_decide, BitVec.slt_eq_decide,
    decide_eq_true_eq, BitVec.toInt_eq_toNat_cond, BitVec.toNat_ofNat, Nat.reducePow, Nat.reduceMod] at h
  omega

/-- The precondition says that of every entry of the list. -/
theorem list_in_range (a : FVec F Cert.Pre_in_range.S64x8192x1 .f32) (p : IVec Cert.Pre_in_range.S524288 32)
    (h : Cert.Pre_in_range.fn (F := F) a p = fun _ => 1#1) (j : Cert.Pre_in_range.S524288.Idx) : (p j).toNat < 524288 := by
  have e := congrFun h ix0
  unfold Cert.Pre_in_range.fn at e
  exact word_in_range _ (Host.reduce_andi_all _ _ _ _ _ e j)

/-! ## The reference -/

section Reference

open Cert.ReferenceIdeal Cert.ReferenceIdeal.Gen

/-- The list the reference takes by: a negative word moved up by 524288, as one column. -/
def wrapped (p : IVec S524288 32) : IVec S524288x1 32 :=
  broadcastInDim S524288x1 ![0] bcast_S524288_S524288x1_0
    (select (cmpi .slt p (broadcastInDim S524288 ![] bcast_S_S524288 (constantI S_ 32 0#32)))
      (addi p (broadcastInDim S524288 ![] bcast_S_S524288 (constantI S_ 32 524288#32))) p)

/-- Where that list is in range. -/
def kept (p : IVec S524288 32) : IVec S524288 1 :=
  Host.reduce IntOp.andi
    (andi (cmpi .sge (wrapped p) (broadcastInDim S524288x1 ![] bcast_S_S524288x1 (constantI S_ 32 0#32)))
      (cmpi .sle (wrapped p) (broadcastInDim S524288x1 ![0, 1] bcast_S1x1_S524288x1_0_1 (broadcastInDim S1x1 ![1] bcast_S1_S1x1_1 (constantI S1 32 524287#32)))))
    (constantI S_ 1 1#1) reducesTo_S524288x1_S524288_d1 h_S_

/-- The column the reference ends with. -/
def column (a : FVec F S64x8192x1 .f32) (p : IVec S524288 32) : FVec F S524288x1 .f32 :=
  select (broadcastInDim S524288x1 ![0] bcast_S524288_S524288x1_0 (kept p))
    (Host.gather gather_S524288x1_S524288x1_S524288x1_1_0_n_n_0_1_11 (shapeCast S524288x1 a shapeCasts_S64x8192x1_S524288x1) (wrapped p))
    (broadcastInDim S524288x1 ![] bcast_S_S524288x1 (constant S_ .f32 0x7FC00000#32))

variable (p : IVec S524288 32) (hp : ∀ j, (p j).toNat < 524288)
include hp

/-- No entry is moved; -/
theorem wrapped_apply (i : S524288x1.Idx) : wrapped p i = p (ix1 (i 0)) := by
  have hj : ∀ k : S524288.Idx, Scalar.select (IntOp.cmpi .slt (p k) 0#32) (IntOp.addi (p k) 524288#32) (p k) = p k := fun k => by
    have h0 : IntOp.cmpi .slt (p k) 0#32 ≠ 1#1 := fun e =>
      Nat.not_lt_zero _ ((StableHlo.Predicate.slt_iff_toNat (by have := hp k; omega) (by decide)).1 e)
    rw [eq_zero_of_ne_one h0]; rfl
  refine (hj _).trans (congrArg p (funext fun a => ?_))
  match a with
  | 0 => exact Fin.ext (by rfl)

/-- every row is kept; -/
theorem kept_apply (j : S524288.Idx) : kept p j = 1#1 := by
  refine Host.reduce_andi_one _ _ _ _ _ rfl fun i => ?_
  have hw := wrapped_apply p hp i
  have hlt := hp (ix1 (i 0))
  show IntOp.andi (IntOp.cmpi .sge (wrapped p i) 0#32) (IntOp.cmpi .sle (wrapped p i) 524287#32) = 1#1
  rw [hw, (StableHlo.Predicate.sge_iff_toNat (by omega) (by decide)).2 (Nat.zero_le _),
    (StableHlo.Predicate.sle_iff_toNat (by omega) (by decide)).2 (by show _ ≤ 524287; omega)]
  rfl

/-- so row `c` of the column is row `p c` of the input laid out as one. -/
theorem column_apply (a : FVec F S64x8192x1 .f32) (c : Fin 524288) (y : Fin 1) :
    column a p (ix2 c y) = shapeCast S524288x1 a shapeCasts_S64x8192x1_S524288x1 (ix2 ⟨(p (ix1 c)).toNat, hp _⟩ y) := by
  have hk : broadcastInDim S524288x1 ![0] bcast_S524288_S524288x1_0 (kept p) (ix2 c y) = 1#1 := kept_apply p hp _
  unfold column
  rw [select_apply, hk, select_one]
  exact Routing.gather_row _ rfl rfl rfl rfl rfl _ _ c y ⟨(p (ix1 c)).toNat, hp _⟩
    ((wrapped_apply p hp _).trans (BitVec.eq_of_toNat_eq (by simp only [BitVec.toNat_ofNat]; exact (Nat.mod_eq_of_lt (p _).isLt).symm))) (by decide)

/-- In the result's shape, the reference's column is the flat array of the words picked from the flattened input. -/
theorem column_result (a : FVec F S64x8192x1 .f32) :
    shapeCast S64x8192x1 (column a p) shapeCasts_S524288x1_S64x8192x1
      = shapeCast S64x8192x1 (picked (shapeCast Cert.KernelIdeal.S524288 a Cert.KernelIdeal.Gen.shapeCasts_S64x8192x1_S524288) p)
          Cert.KernelIdeal.Gen.shapeCasts_S524288_S64x8192x1 := by
  funext i
  have hn : (S64x8192x1.rowMajor i).val < 524288 := (S64x8192x1.rowMajor i).isLt
  rw [shapeCast_apply (column a p) _ i (ix2 ⟨_, hn⟩ (0 : Fin 1)) (by rw [Shape.rowMajor_val_two]; show _ * 1 + 0 = _; rw [Nat.mul_one, Nat.add_zero]),
    shapeCast_apply (picked _ p) _ i (ix1 ⟨_, hn⟩) (Shape.rowMajor_val_one _),
    column_apply p hp]
  unfold picked shapeCast
  refine congrArg a (Shape.reshapeEquiv_eq_of_rowMajor _ ?_)
  rw [Shape.rowMajor_reshapeEquiv, Shape.rowMajor_val_one, Shape.rowMajor_val_two]
  show (p _).toNat % 524288 = (p _).toNat * 1 + 0
  rw [Nat.mul_one, Nat.add_zero, Nat.mod_eq_of_lt (hp _)]

end Reference

end Cert.Proof.Take

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- The precondition is what the run asks of the launch memory. -/
theorem inRange_kernel (m : (ℓ : Loc Cert.Kernel.nD Cert.Kernel.τ Cert.Kernel.sig) → Buf (Elt Bits) ℓ) (h : Cert.Pre_Kernel m) :
    Take.InRange (F := Bits) m := fun d j => Take.list_in_range _ _ (h d) j

theorem inRange_ideal (m : (ℓ : Loc Cert.KernelIdeal.nD Cert.KernelIdeal.τ Cert.KernelIdeal.sig) → Buf (Elt Ideal) ℓ) (h : Cert.Pre_KernelIdeal m) :
    Take.InRange (F := Ideal) m := fun d j => Take.list_in_range _ _ (h d) j

/-- `Kernel` and `KernelIdeal` are one text, so the one run is a run of each. -/
theorem frame_kernel : Cert.quiescent_Kernel := fun m ρ hpre =>
  (θ_run Cert.KernelIdeal.defs _ _).mono (fun _ h => ⟨fun c => ⟨(h.1 c).2.1, (h.1 c).2.2⟩, h.2⟩) (Take.run_main (F := Bits) m ρ (inRange_kernel m hpre))

theorem frame_ideal : Cert.quiescent_KernelIdeal := fun m ρ hpre =>
  (θ_run Cert.KernelIdeal.defs _ _).mono (fun _ h => ⟨fun c => ⟨(h.1 c).2.1, (h.1 c).2.2⟩, h.2⟩) (Take.run_main (F := Ideal) m ρ (inRange_ideal m hpre))

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_reference_in_range : Cert.quiescent_ReferenceIdeal_pre_in_range := fun m ρ _ => frame_reference m ρ trivial

/-- On equal arguments with the list in range, kernel and reference end with the same array. -/
theorem same_result : Cert.algebraic_KernelIdeal_ReferenceIdeal := fun m ρ m' ρ' hpre hagree =>
  ⟨Take.result m,
    (θ_run Cert.KernelIdeal.defs _ _).mono (fun _ h => h.1) (Take.run_main (F := Ideal) m ρ (inRange_ideal m hpre)),
    (θ_run Cert.ReferenceIdeal.defs _ _).mono (fun r h c => by
      obtain ⟨hr, ha, hp⟩ := h c
      refine ⟨hr.trans ?_, ha, hp⟩
      rw [(hagree c).1, (hagree c).2]
      have e := Take.column_result (F := Ideal) (m (Take.pLoc c)) (inRange_ideal m hpre c) (m (Take.aLoc c))
      unfold Take.column Take.kept Take.wrapped at e
      exact e) (Cert.ReferenceIdeal.Value.run m' ρ')⟩

theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, same_result⟩

end Cert.Proof

end
